-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_indices_in_range_values_finite [hPre_indices_in_range_values_finite : Cert.Pre_indices_in_range_values_finite.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_range_values_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_indices_in_range_values_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_indices_in_range_values_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_indices_in_range_values_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_in_range_values_finite [hPre_indices_in_range_values_finite : Cert.Pre_indices_in_range_values_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_in_range_values_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_indices_in_range_values_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_indices_in_range_values_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_indices_in_range_values_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_indices_in_range_values_finite [hKernelIdeal : Cert.KernelIdeal.Facts] [hPre_indices_in_range_values_finite : Cert.Pre_indices_in_range_values_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_indices_in_range_values_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_indices_in_range_values_finite [hReferenceIdeal : Cert.ReferenceIdeal.Facts] [hPre_indices_in_range_values_finite : Cert.Pre_indices_in_range_values_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_in_range_values_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_indices_in_range_values_finite [hKernelIdeal : Cert.KernelIdeal.Facts] [hReferenceIdeal : Cert.ReferenceIdeal.Facts] [hPre_indices_in_range_values_finite : Cert.Pre_indices_in_range_values_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_indices_in_range_values_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_indices_in_range_values_finite : Cert.Pre_indices_in_range_values_finite.Facts),
    quiescent_Kernel (hKernel := hKernel)
    ∧ quiescent_KernelIdeal (hKernelIdeal := hKernelIdeal)
    ∧ quiescent_KernelIdeal_pre_indices_in_range_values_finite (hKernelIdeal := hKernelIdeal) (hPre_indices_in_range_values_finite := hPre_indices_in_range_values_finite)
    ∧ quiescent_ReferenceIdeal (hReferenceIdeal := hReferenceIdeal)
    ∧ quiescent_ReferenceIdeal_pre_indices_in_range_values_finite (hReferenceIdeal := hReferenceIdeal) (hPre_indices_in_range_values_finite := hPre_indices_in_range_values_finite)
    ∧ preserves_Kernel_KernelIdeal
    ∧ algebraic_KernelIdeal_ReferenceIdeal_pre_indices_in_range_values_finite (hKernelIdeal := hKernelIdeal) (hReferenceIdeal := hReferenceIdeal) (hPre_indices_in_range_values_finite := hPre_indices_in_range_values_finite)
-- ==== Pre_indices_in_range_values_finite.lean ====
abbrev S8192x4096 : Shape := ⟨2, ![8192, 4096]⟩
abbrev S256x64x64 : Shape := ⟨3, ![256, 64, 64]⟩
abbrev S256x64 : Shape := ⟨2, ![256, 64]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  bcast_S_S256x64x64 : S_.BroadcastsInDim S256x64x64 (![] : Fin 0 → Fin S256x64x64.rank)
  bcast_S_S256x64 : S_.BroadcastsInDim S256x64 (![] : Fin 0 → Fin S256x64.rank)

variable [Facts]

def fn {F : FTy → Type} [FloatOps F] (main_arg0 : FVec F S8192x4096 .f32) (main_arg1 : FVec F S256x64x64 .f32) (main_arg2 : IVec S256x64 32) (main_arg3 : IVec S256x64 32) (main_arg4 : FVec F S4096 .f32) : IVec S8192x4096 1 × IVec S256x64x64 1 × IVec S256x64 1 × IVec S256x64 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_v3 : FVec F S256x64x64 .f32 := Host.absf main_arg1
  let main_cst_0 : FVec F S_ .f32 := constant S_ .f32 0x7F800000#32
  let main_v4 : FVec F S256x64x64 .f32 := broadcastInDim S256x64x64 ![] bcast_S_S256x64x64 main_cst_0
  let main_v5 : IVec S256x64x64 1 := cmpf .olt main_v3 main_v4
  let main_c : IVec S_ 32 := constantI S_ 32 0#32
  let main_v6 : IVec S256x64 32 := broadcastInDim S256x64 ![] bcast_S_S256x64 main_c
  let main_v7 : IVec S256x64 1 := cmpi .sge main_arg2 main_v6
  let main_c_1 : IVec S_ 32 := constantI S_ 32 4096#32
  let main_v8 : IVec S256x64 32 := broadcastInDim S256x64 ![] bcast_S_S256x64 main_c_1
  let main_v9 : IVec S256x64 1 := cmpi .slt main_arg2 main_v8
  let main_v10 : IVec S256x64 1 := andi main_v7 main_v9
  let main_c_2 : IVec S_ 32 := constantI S_ 32 0#32
  let main_v11 : IVec S256x64 32 := broadcastInDim S256x64 ![] bcast_S_S256x64 main_c_2
  let main_v12 : IVec S256x64 1 := cmpi .sge main_arg3 main_v11
  (main_v2, main_v5, main_v10, main_v12)
-- ==== Kernel.lean ====
abbrev S8192x4096 : Shape := ⟨2, ![8192, 4096]⟩
abbrev S256x64x64 : Shape := ⟨3, ![256, 64, 64]⟩
abbrev S256x64 : Shape := ⟨2, ![256, 64]⟩
abbrev S4096 : Shape := ⟨1, ![4096]⟩
abbrev S64x1x256 : Shape := ⟨3, ![64, 1, 256]⟩
abbrev S1x16384 : Shape := ⟨2, ![1, 16384]⟩
abbrev S1x4096 : Shape := ⟨2, ![1, 4096]⟩
abbrev S16384x4096 : Shape := ⟨2, ![16384, 4096]⟩
abbrev S4x64x64 : Shape := ⟨3, ![4, 64, 64]⟩
abbrev S1x1x256 : Shape := ⟨3, ![1, 1, 256]⟩
abbrev S256x4096 : Shape := ⟨2, ![256, 4096]⟩
abbrev S256 : Shape := ⟨1, ![256]⟩
abbrev S1x64x64 : Shape := ⟨3, ![1, 64, 64]⟩
abbrev S64x64 : Shape := ⟨2, ![64, 64]⟩
abbrev S64x192 : Shape := ⟨2, ![64, 192]⟩
abbrev S64x256 : Shape := ⟨2, ![64, 256]⟩
abbrev S64x128 : Shape := ⟨2, ![64, 128]⟩
abbrev S256x256 : Shape := ⟨2, ![256, 256]⟩
abbrev S256x512 : Shape := ⟨2, ![256, 512]⟩
abbrev S256x1 : Shape := ⟨2, ![256, 1]⟩
abbrev S4096x4096 : Shape := ⟨2, ![4096, 4096]⟩
abbrev S16384x512 : Shape := ⟨2, ![16384, 512]⟩
abbrev S1x2048 : Shape := ⟨2, ![1, 2048]⟩
abbrev S2048 : Shape := ⟨1, ![2048]⟩
abbrev S256x2048 : Shape := ⟨2, ![256, 2048]⟩
abbrev S2048x512 : Shape := ⟨2, ![2048, 512]⟩
abbrev S4096x2048 : Shape := ⟨2, ![4096, 2048]⟩
abbrev S1x512 : Shape := ⟨2, ![1, 512]⟩
abbrev S512 : Shape := ⟨1, ![512]⟩

abbrev nBuf : Space → Nat
  | .hbm => 14
  | .vmem => 19
  | .smem => 0
  | _ => 0

abbrev bufTy : (tb : Table) → Fin (tcTables nBuf tb) → BufTy
  | .hbm, ⟨0, _⟩ => ⟨S8192x4096, .f32⟩
  | .hbm, ⟨1, _⟩ => ⟨S256x64x64, .f32⟩
  | .hbm, ⟨2, _⟩ => ⟨S256x64, .i32⟩
  | .hbm, ⟨3, _⟩ => ⟨S256x64, .i32⟩
  | .hbm, ⟨4, _⟩ => ⟨S4096, .f32⟩
  | .hbm, ⟨5, _⟩ => ⟨S256x64x64, .f32⟩
  | .hbm, ⟨6, _⟩ => ⟨S256x64x64, .bf16⟩
  | .hbm, ⟨7, _⟩ => ⟨S64x1x256, .i32⟩
  | .hbm, ⟨8, _⟩ => ⟨S1x16384, .i32⟩
  | .hbm, ⟨9, _⟩ => ⟨S8192x4096, .bf16⟩
  | .hbm, ⟨10, _⟩ => ⟨S1x4096, .f32⟩
  | .hbm, ⟨11, _⟩ => ⟨S16384x4096, .bf16⟩
  | .hbm, ⟨12, _⟩ => ⟨S4096x4096, .bf16⟩
  | .hbm, ⟨13, _⟩ => ⟨S8192x4096, .f32⟩
  | .local _ .vmem, ⟨0, _⟩ => ⟨S4x64x64, .bf16⟩
  | .local _ .vmem, ⟨1, _⟩ => ⟨S4x64x64, .bf16⟩
  | .local _ .vmem, ⟨2, _⟩ => ⟨S1x1x256, .i32⟩
  | .local _ .vmem, ⟨3, _⟩ => ⟨S1x1x256, .i32⟩
  | .local _ .vmem, ⟨4, _⟩ => ⟨S256x4096, .bf16⟩
  | .local _ .vmem, ⟨5, _⟩ => ⟨S256x4096, .bf16⟩
  | .local _ .vmem, ⟨6, _⟩ => ⟨S1x16384, .i32⟩
  | .local _ .vmem, ⟨7, _⟩ => ⟨S16384x512, .bf16⟩
  | .local _ .vmem, ⟨8, _⟩ => ⟨S16384x512, .bf16⟩
  | .local _ .vmem, ⟨9, _⟩ => ⟨S256x512, .bf16⟩
  | .local _ .vmem, ⟨10, _⟩ => ⟨S256x512, .bf16⟩
  | .local _ .vmem, ⟨11, _⟩ => ⟨S256x4096, .bf16⟩
  | .local _ .vmem, ⟨12, _⟩ => ⟨S256x4096, .bf16⟩
  | .local _ .vmem, ⟨13, _⟩ => ⟨S4096x2048, .bf16⟩
  | .local _ .vmem, ⟨14, _⟩ => ⟨S4096x2048, .bf16⟩
  | .local _ .vmem, ⟨15, _⟩ => ⟨S1x2048, .f32⟩
  | .local _ .vmem, ⟨16, _⟩ => ⟨S1x2048, .f32⟩
  | .local _ .vmem, ⟨17, _⟩ => ⟨S256x2048, .f32⟩
  | .local _ .vmem, ⟨18, _⟩ => ⟨S256x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x64x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 1 → Memref sig .tc .vmem S1x16384 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S16384x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S256x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![2, 32], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S256x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S4096x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S256x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]
-- ==== ReferenceIdeal.lean ====
abbrev S8192x4096 : Shape := ⟨2, ![8192, 4096]⟩
abbrev S256x64x64 : Shape := ⟨3, ![256, 64, 64]⟩
abbrev S256x64 : Shape := ⟨2, ![256, 64]⟩
abbrev S4096 : Shape := ⟨1, ![4096]⟩
abbrev S_ : Shape := ⟨0, ![]⟩
abbrev S256x64x1 : Shape := ⟨3, ![256, 64, 1]⟩
abbrev S1 : Shape := ⟨1, ![1]⟩
abbrev S1x1x1 : Shape := ⟨3, ![1, 1, 1]⟩
abbrev S8192x256x64 : Shape := ⟨3, ![8192, 256, 64]⟩
abbrev S256x64x8192 : Shape := ⟨3, ![256, 64, 8192]⟩
abbrev S16384 : Shape := ⟨1, ![16384]⟩
abbrev S8192x16384 : Shape := ⟨2, ![8192, 16384]⟩
abbrev S16384x1 : Shape := ⟨2, ![16384, 1]⟩
abbrev S1x4096 : Shape := ⟨2, ![1, 4096]⟩

abbrev nBuf : Space → Nat
  | .hbm => 46
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S256x64x64, .f32⟩
  | .hbm, ⟨2, _⟩ => ⟨S256x64, .i32⟩
  | .hbm, ⟨3, _⟩ => ⟨S256x64, .i32⟩
  | .hbm, ⟨4, _⟩ => ⟨S4096, .f32⟩
  | .hbm, ⟨5, _⟩ => ⟨S_, .i32⟩
  | .hbm, ⟨6, _⟩ => ⟨S256x64, .i32⟩
  | .hbm, ⟨7, _⟩ => ⟨S256x64, .i1⟩
  | .hbm, ⟨8, _⟩ => ⟨S_, .i32⟩
  | .hbm, ⟨9, _⟩ => ⟨S256x64, .i32⟩
  | .hbm, ⟨10, _⟩ => ⟨S256x64, .i32⟩
  | .hbm, ⟨11, _⟩ => ⟨S256x64, .i32⟩
  | .hbm, ⟨12, _⟩ => ⟨S256x64x1, .i32⟩
  | .hbm, ⟨13, _⟩ => ⟨S1, .i32⟩
  | .hbm, ⟨14, _⟩ => ⟨S_, .i32⟩
  | .hbm, ⟨15, _⟩ => ⟨S256x64x1, .i32⟩
  | .hbm, ⟨16, _⟩ => ⟨S256x64x1, .i1⟩
  | .hbm, ⟨17, _⟩ => ⟨S1x1x1, .i32⟩
  | .hbm, ⟨18, _⟩ => ⟨S256x64x1, .i32⟩
  | .hbm, ⟨19, _⟩ => ⟨S256x64x1, .i1⟩
  | .hbm, ⟨20, _⟩ => ⟨S256x64x1, .i1⟩
  | .hbm, ⟨21, _⟩ => ⟨S_, .i1⟩
  | .hbm, ⟨22, _⟩ => ⟨S256x64, .i1⟩
  | .hbm, ⟨23, _⟩ => ⟨S8192x256x64, .f32⟩
  | .hbm, ⟨24, _⟩ => ⟨S8192x256x64, .i1⟩
  | .hbm, ⟨25, _⟩ => ⟨S_, .f32⟩
  | .hbm, ⟨26, _⟩ => ⟨S8192x256x64, .f32⟩
  | .hbm, ⟨27, _⟩ => ⟨S8192x256x64, .f32⟩
  | .hbm, ⟨28, _⟩ => ⟨S256x64x8192, .f32⟩
  | .hbm, ⟨29, _⟩ => ⟨S8192x256x64, .f32⟩
  | .hbm, ⟨30, _⟩ => ⟨S_, .f32⟩
  | .hbm, ⟨31, _⟩ => ⟨S8192x4096, .f32⟩
  | .hbm, ⟨32, _⟩ => ⟨S16384, .i32⟩
  | .hbm, ⟨33, _⟩ => ⟨S8192x16384, .f32⟩
  | .hbm, ⟨34, _⟩ => ⟨S_, .i32⟩
  | .hbm, ⟨35, _⟩ => ⟨S16384, .i32⟩
  | .hbm, ⟨36, _⟩ => ⟨S16384, .i1⟩
  | .hbm, ⟨37, _⟩ => ⟨S_, .i32⟩
  | .hbm, ⟨38, _⟩ => ⟨S16384, .i32⟩
  | .hbm, ⟨39, _⟩ => ⟨S16384, .i32⟩
  | .hbm, ⟨40, _⟩ => ⟨S16384, .i32⟩
  | .hbm, ⟨41, _⟩ => ⟨S16384x1, .i32⟩
  | .hbm, ⟨42, _⟩ => ⟨S8192x4096, .f32⟩
  | .hbm, ⟨43, _⟩ => ⟨S1x4096, .f32⟩
  | .hbm, ⟨44, _⟩ => ⟨S8192x4096, .f32⟩
  | .hbm, ⟨45, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_cst : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_c : Ref sig .tc := ⟨.hbm, 34, rfl⟩
abbrev main_v6 : Ref sig .tc := ⟨.hbm, 35, rfl⟩
abbrev main_v7 : Ref sig .tc := ⟨.hbm, 36, rfl⟩
abbrev main_c_0 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩

abbrev nD : Nat := 1
abbrev τ : Topo := Topo.v7x

variable {F : FTy → Type} [FloatOps F]
-- ==== Proof.Spec.lean ====
/- The one-hot weight both matrix products of the kernel are built on, and the three arrays it computes, as plain sums. -/
module

public import proofs.«01_k».proof.KernelIdeal
public import Idealize.ShloMosaic.Lib.Pointwise
public import Idealize.ShloMosaic.Lib.Pipeline.ValueKit

@[expose] public section

set_option maxRecDepth 16384

noncomputable section

namespace Cert.KernelIdeal.Spec

open Idealize.ShloMosaic Idealize.ShloMosaic.TcCoe Idealize.SL.Sem
open Cert.KernelIdeal

/-- One where the 32-bit index word `w` names the position `q`, zero elsewhere. -/
def hot (w : BitVec 32) (q : ℕ) : EReal := if w = BitVec.ofNat 32 q then 1 else 0

/-- A comparison of two words, widened and turned into a number, is one or zero. -/
theorem sitofp_eq (a b : BitVec 32) :
    FloatOps.sitofp (F := Ideal) FTy.f32 (BitVec.setWidth 32 (IntOp.cmpi CmpIPredicate.eq a b)) = if a = b then (1 : EReal) else 0 := by
  by_cases h : a = b
  · subst h; simp [IntOp.cmpi, FloatOps.sitofp]
  · simp [IntOp.cmpi, FloatOps.sitofp, h, beq_eq_false_iff_ne.mpr h]

/-- The compared word equal to a lane number plus an offset: the one-hot weight at their sum. -/
theorem hot_right (w : BitVec 32) (j o : ℕ) :
    FloatOps.sitofp (F := Ideal) FTy.f32 (BitVec.setWidth 32 (IntOp.cmpi CmpIPredicate.eq w (IntOp.addi (BitVec.ofNat 32 j) (BitVec.ofNat 32 o)))) = hot w (o + j) := by
  rw [sitofp_eq]; unfold hot IntOp.addi
  rw [← BitVec.ofNat_add, add_comm]

/-- The same with the word on the right of the comparison, the offset being a multiple of 256. -/
theorem hot_left (w : BitVec 32) (j g : ℕ) :
    FloatOps.sitofp (F := Ideal) FTy.f32 (BitVec.setWidth 32 (IntOp.cmpi CmpIPredicate.eq (IntOp.addi (BitVec.ofNat 32 j) (Scalar.muli (BitVec.ofNat 32 g) 256#32)) w)) = hot w (g * 256 + j) := by
  rw [sitofp_eq]; unfold hot
  rw [show IntOp.addi (BitVec.ofNat 32 j) (Scalar.muli (BitVec.ofNat 32 g) 256#32) = BitVec.ofNat 32 (g * 256 + j) by
    unfold IntOp.addi Scalar.muli IntOp.muli
    rw [BitVec.ofNat_add, BitVec.ofNat_mul, BitVec.add_comm]]
  simp only [eq_comm]

/-- Row `64 b + i` of the first array: the weights `wt (b, i, ·)` put into the columns the output indices name. -/
def tmpF (wt : FVec Ideal S256x64x64 .bf16) (idxo : IVec S64x1x256 32) : FVec Ideal S16384x4096 .bf16 := fun j =>
  ∑ o : Fin 64, wt (ix3 ⟨(j 0 : ℕ) / 64, by idx_bounds; omega⟩ ⟨(j 0 : ℕ) % 64, by omega⟩ o)
    * hot (idxo (ix3 ⟨(j 0 : ℕ) / 256, by idx_bounds; omega⟩ 0 ⟨(j 0 : ℕ) / 64 % 4 * 64 + o, by omega⟩)) (j 1)

/-- Row `p` of the second array: the sum of the rows of the first whose input index is `p`. -/
def mF (idxi : IVec S1x16384 32) (tmp : FVec Ideal S16384x4096 .bf16) : FVec Ideal S4096x4096 .bf16 := fun j =>
  ∑ s : Fin 16384, hot (idxi (ix2 0 s)) (j 0) * tmp (ix2 s (j 1))

/-- The result: `x` times the second array, plus the bias. -/
def outF (x : FVec Ideal S8192x4096 .bf16) (mm : FVec Ideal S4096x4096 .bf16) (b : FVec Ideal S1x4096 .f32) : FVec Ideal S8192x4096 .f32 := fun j =>
  (∑ p : Fin 4096, x (ix2 (j 0) p) * mm (ix2 p (j 1))) + b (ix2 0 (j 1))

end Cert.KernelIdeal.Spec

end
-- ==== Proof.Block0.lean ====
/- What one block of the first region computes. -/
module

public import proofs.«01_k».proof.Proof.Gen.KernelIdeal.Frame
public import proofs.«01_k».proof.Proof.Spec

@[expose] public section

set_option maxRecDepth 16384

noncomputable section

namespace Cert.KernelIdeal.Block0

open Idealize.ShloMosaic Idealize.ShloMosaic.TcCoe Idealize.SL.Sem
open Cert.KernelIdeal Cert.KernelIdeal.Gen Cert.KernelIdeal.Spec

/-- The block-diagonal matrix of four 64 × 64 weight blocks, by block row, block column and the places inside them. -/
theorem bd_at (X : Vec Ideal S4x64x64 .bf16) (x1 : Vec Ideal S1x1x256 .i32) (r : Fin 4) (i : Fin 64) (s : Fin 4) (o : Fin 64) :
    k0_pay14 (F := Ideal) X x1 (ix2 ⟨r * 64 + i, by omega⟩ ⟨s * 64 + o, by omega⟩) = if s = r then X (ix3 r i o) else 0 := by
  fin_cases r <;> fin_cases s <;>
    (pointwise [k0_pay14, k0_pay2]; try first | (simp; done) | (split_ifs <;> first | omega | (simp; done) | blk_ext))

/-- A block's element in terms of the block-diagonal matrix and the block's output indices. -/
theorem out_bd (X : Vec Ideal S4x64x64 .bf16) (x1 : Vec Ideal S1x1x256 .i32) (y : S256x4096.Idx) :
    out0_2 (F := Ideal) X x1 y = ∑ k : Fin 256, k0_pay14 (F := Ideal) X x1 (ix2 (y 0) k) * hot (x1 (ix3 0 0 k)) (y 1) := by
  unfold out0_2
  canon_tiles x h
  all_goals (pointwise [k0_pay3, k0_pay4, k0_pay5, k0_pay6, k0_pay7, k0_pay8, k0_pay9, k0_pay10, k0_pay11, k0_pay12, k0_pay13, k0_pay14, k0_pay1, hot_right])
  all_goals
    rw [h1]
    exact Finset.sum_congr rfl fun k _ => by
      rw [show (ix2 (x 0) k : S256x256.Idx) = ix2 (y 0) k from (ix2_inj ..).2 ⟨Fin.ext h0.symm, rfl⟩]
      rfl

/-- A block's element: row `i` holds the weights of its block row, each put into the column its output index names. -/
theorem out_at (X : Vec Ideal S4x64x64 .bf16) (x1 : Vec Ideal S1x1x256 .i32) (y : S256x4096.Idx) :
    out0_2 (F := Ideal) X x1 y = ∑ o : Fin 64, X (ix3 ⟨(y 0 : ℕ) / 64, by idx_bounds; omega⟩ ⟨(y 0 : ℕ) % 64, by omega⟩ o)
      * hot (x1 (ix3 0 0 ⟨(y 0 : ℕ) / 64 * 64 + o, by idx_bounds; omega⟩)) (y 1) := by
  idx_vars y
  rw [out_bd]
  pointwise
  rw [Fin.sum_univ_tiles 4 64 rfl]
  rw [Finset.sum_eq_single (⟨(y0 : ℕ) / 64, by omega⟩ : Fin 4)]
  · refine Finset.sum_congr rfl fun o _ => ?_
    have e := bd_at X x1 ⟨(y0 : ℕ) / 64, by omega⟩ ⟨(y0 : ℕ) % 64, by omega⟩ ⟨(y0 : ℕ) / 64, by omega⟩ o
    rw [if_pos rfl] at e
    rw [← e]
    refine congrArg₂ (· * ·) (congrArg _ ((ix2_inj ..).2 ⟨Fin.ext ?_, rfl⟩)) rfl
    show (y0 : ℕ) = (y0 : ℕ) / 64 * 64 + (y0 : ℕ) % 64
    omega
  · intro s _ hs
    refine Finset.sum_eq_zero fun o _ => ?_
    have e := bd_at X x1 ⟨(y0 : ℕ) / 64, by omega⟩ ⟨(y0 : ℕ) % 64, by omega⟩ s o
    rw [if_neg hs] at e
    rw [show (ix2 y0 ⟨(s : ℕ) * 64 + o, by omega⟩ : S256x256.Idx) = ix2 ⟨(y0 : ℕ) / 64 * 64 + (y0 : ℕ) % 64, by omega⟩ ⟨(s : ℕ) * 64 + o, by omega⟩
      from (ix2_inj ..).2 ⟨Fin.ext (show (y0 : ℕ) = (y0 : ℕ) / 64 * 64 + (y0 : ℕ) % 64 by omega), rfl⟩]
    rw [e, zero_mul]
  · intro h; exact absurd (Finset.mem_univ _) h

end Cert.KernelIdeal.Block0

end
-- ==== Proof.Block1.lean ====
/- What one block of the second region computes. -/
module

public import proofs.«01_k».proof.Proof.Gen.KernelIdeal.Frame
public import proofs.«01_k».proof.Proof.Spec

@[expose] public section

set_option maxRecDepth 16384

noncomputable section

namespace Cert.KernelIdeal.Block1

open Idealize.ShloMosaic Idealize.ShloMosaic.TcCoe Idealize.SL.Sem
open Cert.KernelIdeal Cert.KernelIdeal.Gen Cert.KernelIdeal.Spec

/-- A block's element: the sum over all 16384 slots, which the body takes as eight sums of 2048. -/
theorem out_at (g : grid1.Coords) (x0 : Vec Ideal S1x16384 .i32) (X : Vec Ideal S16384x512 .bf16) (y : S256x512.Idx) :
    out1_2 (F := Ideal) g x0 X y = ∑ s : Fin 16384, hot (x0 (ix2 0 s)) ((g 1 : ℕ) * 256 + (y 0 : ℕ)) * X (ix2 s (y 1)) := by
  rw [Fin.sum_univ_tiles 8 2048 rfl, Fin.sum_univ_eight]
  unfold out1_2
  canon_tiles x h
  pointwise [k1_pay1, k1_pay2, k1_pay3, k1_pay4, k1_pay5, hot_left]
  rw [h0]
  blk_point []

end Cert.KernelIdeal.Block1

end
-- ==== Proof.Block2.lean ====
/- What one block of the third region computes. -/
module

public import proofs.«01_k».proof.Proof.Gen.KernelIdeal.Frame
public import proofs.«01_k».proof.Proof.Spec

@[expose] public section

set_option maxRecDepth 16384

noncomputable section

namespace Cert.KernelIdeal.Block2

open Idealize.ShloMosaic Idealize.ShloMosaic.TcCoe Idealize.SL.Sem
open Cert.KernelIdeal Cert.KernelIdeal.Gen Cert.KernelIdeal.Spec

/-- A block's element: a row of the block of `x` times a column of the second array, in two halves, plus the bias. -/
theorem out_at (x0 : Vec Ideal S256x4096 .bf16) (X : Vec Ideal S4096x2048 .bf16) (b : Vec Ideal S1x2048 .f32) (y : S256x2048.Idx) :
    out2_3 (F := Ideal) x0 X b y = (∑ p : Fin 4096, x0 (ix2 (y 0) p) * X (ix2 p (y 1))) + b (ix2 0 (y 1)) := by
  rw [Fin.sum_univ_tiles 2 2048 rfl, Fin.sum_univ_two]
  unfold out2_3
  canon_tiles x h
  all_goals (pointwise [k2_pay1, k2_pay2, k2_pay3, k2_pay4, k2_pay5, k2_pay6])
  all_goals blk_point []

end Cert.KernelIdeal.Block2

end
-- ==== Proof.Arrays.lean ====
/- What each region leaves in its result array: the blocks put together. -/
module

public import proofs.«01_k».proof.Proof.Block0
public import proofs.«01_k».proof.Proof.Block1
public import proofs.«01_k».proof.Proof.Block2

@[expose] public section

set_option maxRecDepth 16384

noncomputable section

namespace Cert.KernelIdeal.Arrays

open Idealize.ShloMosaic Idealize.ShloMosaic.TcCoe Idealize.SL.Sem
open Idealize.ShloMosaic.Pipeline (Dat)
open Cert.KernelIdeal Cert.KernelIdeal.Gen Cert.KernelIdeal.Spec

variable (V : (c : Dev nD) → (b : Ref sig .tc) → Buf (Elt Ideal) ((c : Thread nD τ).loc b))

/-- Where the first region's blocks lie: group `t` of the weights, of the output indices and of the rows written. -/
theorem idx0 : ∀ t : Fin cfg0.N, win0_0.index t = ![t.val, 0, 0] ∧ win0_1.index t = ![t.val, 0, 0] ∧ win0_2.index t = ![t.val, 0] :=
  (by decide +kernel : ∀ t : Fin grid0.N, _)

/-- Where the second region's blocks lie: column tile `t / 16`, row tile `t % 16`. -/
theorem idx1 : ∀ t : Fin cfg1.N, win1_0.index t = ![0, 0] ∧ win1_1.index t = ![0, t.val / 16] ∧ win1_2.index t = ![t.val % 16, t.val / 16]
    ∧ (grid1.coords t 1).val = t.val % 16 :=
  (by decide +kernel : ∀ t : Fin grid1.N, _)

/-- Where the third region's blocks lie: column half `t / 32`, row tile `t % 32`. -/
theorem idx2 : ∀ t : Fin cfg2.N, win2_0.index t = ![t.val % 32, 0] ∧ win2_1.index t = ![0, t.val / 32] ∧ win2_2.index t = ![0, t.val / 32]
    ∧ win2_3.index t = ![t.val % 32, t.val / 32] :=
  (by decide +kernel : ∀ t : Fin grid2.N, _)

/-- After the first region its result array holds the weights put into the columns the output indices name. -/
theorem final0 (c : Dev nD) : (dat0 V c).arrAt 2 cfg0.N = tmpF (V c main_v1) (V c main_v2) := by
  refine (dat0 V c).arrAt_eq_of_covers 2 _ (by decide +kernel) fun t _ y => ?_
  blk_simp
  rw [after0_2]
  refine (Block0.out_at _ _ y).trans ?_
  unfold tmpF
  blk_point [iblk0, idx0 t]

/-- After the second region its result array holds, row by row, the sum of the rows whose input index names it. -/
theorem final1 (c : Dev nD) : (dat1 V c).arrAt 2 cfg1.N = mF (V c main_v3) (V c main_v6) := by
  refine (dat1 V c).arrAt_eq_of_covers 2 _ (by decide +kernel) fun t _ y => ?_
  blk_simp
  rw [after1_2]
  refine (Block1.out_at _ _ _ y).trans ?_
  unfold mF
  have hp : (((win1_2.blk t).view.emb y 0 : Fin 4096) : ℕ) = (grid1.coords t 1 : ℕ) * 256 + (y 0 : ℕ) := by blk_simp [idx1 t]
  rw [hp]
  blk_point [iblk1, idx1 t]

/-- After the third region the result array holds `x` times the second array plus the bias. -/
theorem final2 (c : Dev nD) : (dat2 V c).arrAt 3 cfg2.N = outF (V c main_v4) (V c main_v7) (V c main_v5) := by
  refine (dat2 V c).arrAt_eq_of_covers 3 _ (by decide +kernel) fun t _ y => ?_
  blk_simp
  rw [after2_3]
  refine (Block2.out_at _ _ _ y).trans ?_
  unfold outF
  blk_point [iblk2, idx2 t]

end Cert.KernelIdeal.Arrays

end
-- ==== Proof.KernelRun.lean ====
/- The kernel's run: what its result buffer holds at the end, as a function of the arguments. -/
module

public import proofs.«01_k».proof.Proof.Arrays
public import Idealize.ShloMosaic.Lib.Claim

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Spec

local notation "𝕄" => MT nD τ sig Unit (Elt Ideal) ℕ (UR sig nD τ) ℕ

variable (m : (ℓ : Loc nD τ sig) → Buf (Elt Ideal) ℓ) (ρ : Dev nD → PrngReg)

/-- The result as a function of the five arguments. -/
def result (x : FVec Ideal S8192x4096 .f32) (w : FVec Ideal S256x64x64 .f32) (idxi idxo : IVec S256x64 32) (b : FVec Ideal S4096 .f32) :
    FVec Ideal S8192x4096 .f32 :=
  outF x (mF (shapeCast S1x16384 idxi shapeCasts_S256x64_S1x16384)
    (tmpF (transpose S256x64x64 [0, 2, 1] w transposes_S256x64x64_S256x64x64_0_2_1) (shapeCast S64x1x256 idxo shapeCasts_S256x64_S64x1x256)))
    (shapeCast S1x4096 b shapeCasts_S4096_S1x4096)

/-- The weights as the first region reads them: transposed inside each block. -/
theorem entry_v1 (c : Dev nD) : StableHlo.after hostOps0 (W0 m ρ c) (Proc.devRef .tc main_v1) = (transpose S256x64x64 [0, 2, 1] (m ((c : Thread nD τ).loc main_arg1)) transposes_S256x64x64_S256x64x64_0_2_1 : FVec Ideal S256x64x64 .f32) := by
  after_results; try rfl

/-- The output indices as the first region reads them: 64 groups of 256. -/
theorem entry_v2 (c : Dev nD) : StableHlo.after hostOps0 (W0 m ρ c) (Proc.devRef .tc main_v2) = shapeCast S64x1x256 (m ((c : Thread nD τ).loc main_arg3)) shapeCasts_S256x64_S64x1x256 := by
  after_results; try rfl

/-- The input indices as the second region reads them: one row of 16384. -/
theorem entry_v3 (c : Dev nD) : StableHlo.after hostOps0 (W0 m ρ c) (Proc.devRef .tc main_v3) = shapeCast S1x16384 (m ((c : Thread nD τ).loc main_arg2)) shapeCasts_S256x64_S1x16384 := by
  after_results; try rfl

/-- `x` as the third region reads it. -/
theorem entry_v4 (c : Dev nD) : StableHlo.after hostOps0 (W0 m ρ c) (Proc.devRef .tc main_v4) = (m ((c : Thread nD τ).loc main_arg0)) := by
  after_results; try rfl

/-- The bias as the third region reads it: one row. -/
theorem entry_v5 (c : Dev nD) : StableHlo.after hostOps0 (W0 m ρ c) (Proc.devRef .tc main_v5) = shapeCast S1x4096 (m ((c : Thread nD τ).loc main_arg4)) shapeCasts_S4096_S1x4096 := by
  after_results; try rfl

/-- The last region's result array, composed through the three regions. -/
theorem final (c : Dev nD) : W4 m ρ c (Proc.devRef .tc main_v8)
    = result (m ((c : Thread nD τ).loc main_arg0)) (m ((c : Thread nD τ).loc main_arg1)) (m ((c : Thread nD τ).loc main_arg2))
        (m ((c : Thread nD τ).loc main_arg3)) (m ((c : Thread nD τ).loc main_arg4)) := by
  refine (W4_arr m ρ c 3).trans ((Arrays.final2 (V3 m ρ) c).trans ?_)
  have h6 : V2 m ρ c main_v6 = _ := (W2_arr m ρ c 2).trans (Arrays.final0 (V1 m ρ) c)
  have h7 : V3 m ρ c main_v7 = _ := (W3_arr m ρ c 2).trans (Arrays.final1 (V2 m ρ) c)
  have h3 : V2 m ρ c main_v3 = V1 m ρ c main_v3 := W2_of m ρ c main_v3 (by decide)
  have h4 : V3 m ρ c main_v4 = V1 m ρ c main_v4 := (W3_of m ρ c main_v4 (by decide)).trans (W2_of m ρ c main_v4 (by decide))
  have h5 : V3 m ρ c main_v5 = V1 m ρ c main_v5 := (W3_of m ρ c main_v5 (by decide)).trans (W2_of m ρ c main_v5 (by decide))
  rw [h7, h4, h5, h3, h6, show V1 m ρ c main_v1 = _ from entry_v1 m ρ c, show V1 m ρ c main_v2 = _ from entry_v2 m ρ c, show V1 m ρ c main_v3 = _ from entry_v3 m ρ c,
    show V1 m ρ c main_v4 = _ from entry_v4 m ρ c, show V1 m ρ c main_v5 = _ from entry_v5 m ρ c]
  rfl

set_option backward.isDefEq.respectTransparency.types false in
/-- Every run of the kernel terminates with the result buffer at `result` of the arguments, and the arguments unchanged. -/
theorem run : θ_run defs (onTc (τ := τ) (main (F := Ideal))) ⟨m, fun _ => 0, ρ⟩ (fun r => ∀ c : Dev nD,
      r.2.mem ((c.tc : Thread nD τ).loc main_v8)
        = result (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v8 (by decide))).trans (final m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.Run

end
-- ==== Proof.RefValue.lean ====
/- What the reference computes: each element of its result as a sum over the pairs (block, output channel) that land on its column. -/
module

public import proofs.«01_k».proof.Proof.Gen.ReferenceIdeal.Run
public import proofs.«01_k».proof.Proof.Gen.ReferenceIdeal.Read
public import Idealize.ShloMosaic.Lib.Claim
public import Idealize.ShloMosaic.Lib.Pointwise
public import Idealize.ShloMosaic.Lib.Pointwise.Sums
public import Idealize.ShloMosaic.Lib.Pointwise.IndexBridge
public import Idealize.ShloMosaic.Lib.ReduceAll
public import Idealize.ShloMosaic.Lib.Routing.OpsPair

@[expose] public section

set_option maxRecDepth 16384

noncomputable section

namespace Cert.ReferenceIdeal.RefValue

open Idealize.ShloMosaic Idealize.ShloMosaic.TcCoe Idealize.SL.Sem
open Cert.ReferenceIdeal Cert.ReferenceIdeal.Gen Cert.ReferenceIdeal.Read

/-- The take along the columns: where the index array names column `k`, the entry taken is row `r`'s at `k`. -/
theorem take_at (x : FVec Ideal S8192x4096 .f32) (idx : IVec S256x64x1 32) (r : Fin 8192) (b : Fin 256) (i : Fin 64) (k : Fin 4096)
    (hk : idx (ix3 b i (0 : Fin 1)) = BitVec.ofNat 32 k.val) :
    Host.gather gather_S8192x4096_S256x64x1_S8192x256x64_0_1_n_n_1_2_81921 x idx (ix3 r b i) = x (ix2 r k) := by
  unfold Host.gather
  refine congrArg x (funext fun a => Fin.ext ?_)
  match a with
  | ⟨0, _⟩ =>
    show GatherDims.start _ _ idx 0 + GatherDims.batchCoord _ _ 0 + GatherDims.offCoord _ _ 0 = r.val
    unfold GatherDims.start
    rw [dif_neg (by decide), GatherDims.batchCoord_eq_zero _ _ _ List.not_mem_nil]
    show 0 + 0 + r.val = r.val
    omega
  | ⟨1, _⟩ =>
    show GatherDims.start _ _ idx 1 + GatherDims.batchCoord _ _ 1 + GatherDims.offCoord _ _ 1 = k.val
    unfold GatherDims.start
    rw [dif_pos (by decide), GatherDims.batchCoord_eq_zero _ _ _ List.not_mem_nil, GatherDims.offCoord_eq_zero _ _ _ (by decide)]
    have hsi : gather_S8192x4096_S256x64x1_S8192x256x64_0_1_n_n_1_2_81921.siIdx (ix3 r b i) ⟨0, by decide⟩ = ix3 b i (0 : Fin 1) := by
      funext c
      refine Fin.ext ?_
      match c with
      | ⟨0, _⟩ => rfl
      | ⟨1, _⟩ => rfl
      | ⟨2, _⟩ => rfl
    have hs : min (idx (gather_S8192x4096_S256x64x1_S8192x256x64_0_1_n_n_1_2_81921.siIdx (ix3 r b i) ⟨0, by decide⟩)).toInt.toNat (4096 - 1) = k.val := by
      rw [hsi, hk, StableHlo.Predicate.toInt_ofNat_small _ (by omega)]
      omega
    exact hs

/-- An update lands at row `t`, column `q` exactly when it is of row `t` and its index word, read signed, is `q`. -/
theorem lands_iff (idx : IVec S16384x1 32) (r t : Fin 8192) (s : Fin 16384) (q : Fin 4096) :
    scatter_S8192x4096_S16384x1_S8192x16384_0_1_1_1.resultIdx? (ix2 r s) idx = some (ix2 t q)
      ↔ r = t ∧ (idx (ix2 s (0 : Fin 1))).toInt = (q.val : Int) := by
  refine (Routing.resultIdx?_ix2 _ (ix2 r s) idx t q).trans ?_
  have h0 : scatter_S8192x4096_S16384x1_S8192x16384_0_1_1_1.start (ix2 r s) idx 0 = 0 := by
    unfold ScatterDims.start
    rw [dif_neg (by decide)]
  have w0 : scatter_S8192x4096_S16384x1_S8192x16384_0_1_1_1.window (ix2 r s) 0 = r.val := rfl
  have hsi : scatter_S8192x4096_S16384x1_S8192x16384_0_1_1_1.siIdx (ix2 r s) ⟨0, by decide⟩ = ix2 s (0 : Fin 1) := by
    funext c
    refine Fin.ext ?_
    match c with
    | ⟨0, _⟩ => rfl
    | ⟨1, _⟩ => rfl
  have h1 : scatter_S8192x4096_S16384x1_S8192x16384_0_1_1_1.start (ix2 r s) idx 1 = (idx (ix2 s (0 : Fin 1))).toInt := by
    unfold ScatterDims.start
    rw [dif_pos (by decide), ← hsi]
    rfl
  have w1 : scatter_S8192x4096_S16384x1_S8192x16384_0_1_1_1.window (ix2 r s) 1 = 0 := rfl
  rw [h0, w0, h1, w1, Fin.ext_iff]
  constructor <;> rintro ⟨h, h'⟩ <;> constructor <;> omega

/-- The accumulating scatter at one element: what was there plus the updates of its row whose index word is its column. -/
theorem scatter_at (x : FVec Ideal S8192x4096 .f32) (idx : IVec S16384x1 32) (upd : FVec Ideal S8192x16384 .f32) (t : Fin 8192) (q : Fin 4096) :
    Host.scatterAdd scatter_S8192x4096_S16384x1_S8192x16384_0_1_1_1 x idx upd (ix2 t q)
      = x (ix2 t q) + ∑ s : Fin 16384, if (idx (ix2 s (0 : Fin 1))).toInt = (q.val : Int) then upd (ix2 t s) else 0 := by
  refine congrArg (x (ix2 t q) + ·) ?_
  rw [Finset.sum_filter, sum_idx2]
  simp only [lands_iff]
  rw [Finset.sum_eq_single t]
  · simp
  · intro r _ hr
    simp [hr]
  · simp

variable (x0 : FVec Ideal S8192x4096 .f32) (x1 : FVec Ideal S256x64x64 .f32) (x2 x3 : IVec S256x64 32) (x4 : FVec Ideal S4096 .f32)

/-- The column gathered for block `b`, channel `i`, when every input index names a column. -/
theorem taken_at (k : Fin 256 → Fin 64 → Fin 4096) (hk : ∀ b i, x2 (ix2 b i) = BitVec.ofNat 32 (k b i).val) (r : Fin 8192) (b : Fin 256) (i : Fin 64) :
    val_main_v0 (F := Ideal) x0 x2 (ix3 r b i) = x0 (ix2 r (k b i)) := by
  have hv (b : Fin 256) (i : Fin 64) : val_main_call0_v5 (F := Ideal) x2 (ix3 b i (0 : Fin 1)) = BitVec.ofNat 32 (k b i).val := by
    have hlt := (k b i).isLt
    unfold val_main_call0_v5 val_main_call0_v4 val_main_call0_v1 val_main_call0_v0 val_main_call0_c
    pointwise [hk]
    exact Routing.wrap_of_lt _ _ (by rw [BitVec.toNat_ofNat]; omega)
  have hm (b : Fin 256) (i : Fin 64) : val_main_call0_v12 (F := Ideal) x2 (ix2 b i) = 1#1 := by
    unfold val_main_call0_v12
    refine Host.reduce_andi_one _ _ _ _ _ rfl fun j => ?_
    obtain ⟨b, i, z, rfl⟩ : ∃ (b : Fin 256) (i : Fin 64) (z : Fin 1), j = ix3 b i z := ⟨j 0, j 1, j 2, eq_ix3 j⟩
    obtain rfl : z = 0 := Subsingleton.elim _ _
    have hlt := (k b i).isLt
    unfold val_main_call0_v11 val_main_call0_v7 val_main_call0_v6 val_main_call0_c_2 val_main_call0_v10 val_main_call0_v9 val_main_call0_v8
      val_main_call0_c_1
    pointwise [hv]
    rw [(StableHlo.Predicate.sge_iff_toNat (by rw [BitVec.toNat_ofNat]; omega) (by decide)).2 (by rw [BitVec.toNat_ofNat]; simp),
      (StableHlo.Predicate.sle_iff_toNat (by rw [BitVec.toNat_ofNat]; omega) (by decide)).2 (by rw [BitVec.toNat_ofNat]; simp; omega)]
    rfl
  have hg := take_at x0 (val_main_call0_v5 (F := Ideal) x2) r b i (k b i) (hv b i)
  unfold val_main_v0 val_main_call0_v14 val_main_call0_v13
  pointwise [hm, hg]

/-- The reference's result at one element. -/
theorem ref_at (k : Fin 256 → Fin 64 → Fin 4096) (hk : ∀ b i, x2 (ix2 b i) = BitVec.ofNat 32 (k b i).val)
    (ho : ∀ b o, (x3 (ix2 b o)).toNat < 2 ^ 31) (t : Fin 8192) (q : Fin 4096) :
    val_main_v15 (F := Ideal) x0 x1 x2 x3 x4 (ix2 t q)
      = (∑ b : Fin 256, ∑ o : Fin 64, if x3 (ix2 b o) = BitVec.ofNat 32 q.val then ∑ i : Fin 64, x1 (ix3 b o i) * x0 (ix2 t (k b i)) else 0)
        + x4 (ix1 q) := by
  rw [val_main_v15_apply]
  unfold val_main_v12
  rw [scatter_at, Fin.sum_univ_tiles 256 64 rfl]
  have hv (b : Fin 256) (o : Fin 64) : val_main_v11 (F := Ideal) x3 (ix2 ⟨b.val * 64 + o.val, by omega⟩ (0 : Fin 1)) = x3 (ix2 b o) := by
    have := ho b o
    unfold val_main_v11 val_main_v10 val_main_v9 val_main_v8 val_main_v7 val_main_v6 val_main_v4 val_main_c val_main_c_0
    pointwise []
    exact Routing.wrap_of_lt _ _ this
  have hu (b : Fin 256) (o : Fin 64) : val_main_v5 (F := Ideal) x0 x1 x2 (ix2 t ⟨b.val * 64 + o.val, by omega⟩)
      = ∑ i : Fin 64, x1 (ix3 b o i) * x0 (ix2 t (k b i)) := by
    unfold val_main_v5 val_main_v2 val_main_v1
    pointwise []
    exact Finset.sum_congr rfl fun i _ => by rw [taken_at x0 x2 k hk]
  have hw (b : Fin 256) (o : Fin 64) : (x3 (ix2 b o)).toInt = (q.val : Int) ↔ x3 (ix2 b o) = BitVec.ofNat 32 q.val := by
    have := ho b o
    have := q.isLt
    rw [StableHlo.Predicate.toInt_eq_toNat_of_lt (ho b o), BitVec.toNat_eq, BitVec.toNat_ofNat]
    omega
  simp only [hv, hu, hw]
  unfold val_main_v3 val_main_v14 val_main_v13 val_main_cst
  pointwise []

end Cert.ReferenceIdeal.RefValue

end
-- ==== Proof.Equation.lean ====
/- The equation between the kernel's three sums and the reference's double sum, over the reals and then over the extended reals. -/
module

public import Mathlib.Data.EReal.Operations
public import Mathlib.Algebra.BigOperators.Ring.Finset
public import Mathlib.Algebra.BigOperators.Group.Finset.Sigma
public import Mathlib.Tactic.Ring

@[expose] public section

noncomputable section

namespace Cert.Equation

/-- A finite sum of reals, taken in the extended reals. -/
theorem coe_sum {ι : Type} (S : Finset ι) (f : ι → ℝ) : ((∑ i ∈ S, f i : ℝ) : EReal) = ∑ i ∈ S, (f i : EReal) :=
  map_sum (⟨⟨fun r => (r : EReal), EReal.coe_zero⟩, EReal.coe_add⟩ : ℝ →+ EReal) f S

/-- A 0/1 weight as an extended real is the same weight over the reals. -/
theorem coe_hot (P : Prop) [Decidable P] : (if P then 1 else 0 : EReal) = ((if P then 1 else 0 : ℝ) : EReal) := by
  split <;> simp

/-- Over the reals: multiply `x` by the matrix that adds, in row `k b i` and column `q`, the weight of every pair whose output
    channel lands on `q`; the same as adding, for every pair that lands on `q`, the weighted sum of the entries of `x` taken. -/
theorem real_eq {A B N : ℕ} (x : Fin N → ℝ) (w : Fin A → Fin B → Fin B → ℝ) (k : Fin A → Fin B → Fin N) (C : Fin A → Fin B → Prop)
    [∀ b o, Decidable (C b o)] :
    ∑ p, x p * ∑ b, ∑ i, (if k b i = p then 1 else 0) * ∑ o, w b o i * (if C b o then 1 else 0)
      = ∑ b, ∑ o, if C b o then ∑ i, w b o i * x (k b i) else 0 := by
  have h (b : Fin A) (i : Fin B) : ∑ p, x p * ((if k b i = p then 1 else 0) * ∑ o, w b o i * (if C b o then 1 else 0))
      = ∑ o, if C b o then w b o i * x (k b i) else 0 := by
    rw [Finset.sum_eq_single (k b i) (fun p _ hp => by rw [if_neg (Ne.symm hp)]; ring) (fun hp => absurd (Finset.mem_univ _) hp), if_pos rfl, one_mul,
      Finset.mul_sum]
    exact Finset.sum_congr rfl fun o _ => by split <;> ring
  have hd (p : Fin N) : x p * ∑ b, ∑ i, (if k b i = p then 1 else 0) * ∑ o, w b o i * (if C b o then 1 else 0)
      = ∑ b, ∑ i, x p * ((if k b i = p then 1 else 0) * ∑ o, w b o i * (if C b o then 1 else 0)) := by
    rw [Finset.mul_sum]
    exact Finset.sum_congr rfl fun b _ => Finset.mul_sum ..
  simp only [hd]
  rw [Finset.sum_comm]
  refine Finset.sum_congr rfl fun b _ => ?_
  rw [Finset.sum_comm]
  simp only [h]
  rw [Finset.sum_comm]
  exact Finset.sum_congr rfl fun o _ => by split <;> simp

/-- The same over the extended reals, where `x` and the weights are real. -/
theorem ereal_eq {A B N : ℕ} (x : Fin N → EReal) (w : Fin A → Fin B → Fin B → EReal) (k : Fin A → Fin B → Fin N) (C : Fin A → Fin B → Prop)
    [∀ b o, Decidable (C b o)] (hx : ∀ p, ((x p).toReal : EReal) = x p) (hw : ∀ b o i, ((w b o i).toReal : EReal) = w b o i) :
    ∑ p, x p * ∑ b, ∑ i, (if k b i = p then 1 else 0) * ∑ o, w b o i * (if C b o then 1 else 0)
      = ∑ b, ∑ o, if C b o then ∑ i, w b o i * x (k b i) else 0 := by
  have e := congrArg (fun r : ℝ => (r : EReal)) (real_eq (fun p => (x p).toReal) (fun b o i => (w b o i).toReal) k C)
  have hz (P : Prop) [Decidable P] (r : ℝ) : ((if P then r else 0 : ℝ) : EReal) = if P then (r : EReal) else 0 := by split <;> simp
  simpa only [coe_sum, EReal.coe_mul, hz, EReal.coe_one, hx, hw] using e

end Cert.Equation

end
-- ==== Proof.KernelValue.lean ====
/- The kernel's result at one element, and its agreement with the reference's where the precondition holds. -/
module

public import proofs.«01_k».proof.Proof.KernelRun
public import proofs.«01_k».proof.Proof.RefValue
public import proofs.«01_k».proof.Proof.Equation

@[expose] public section

set_option maxRecDepth 16384

noncomputable section

namespace Cert.KernelIdeal.KernelValue

open Idealize.ShloMosaic Idealize.ShloMosaic.TcCoe Idealize.SL.Sem
open Cert.KernelIdeal Cert.KernelIdeal.Gen Cert.KernelIdeal.Spec Cert.KernelIdeal.Run

variable (x : FVec Ideal S8192x4096 .f32) (w : FVec Ideal S256x64x64 .f32) (idxi idxo : IVec S256x64 32) (bias : FVec Ideal S4096 .f32)

/-- The kernel's result at one element, over the arguments themselves. -/
theorem result_at (t : Fin 8192) (q : Fin 4096) : result x w idxi idxo bias (ix2 t q)
    = (∑ p : Fin 4096, x (ix2 t p) * ∑ b : Fin 256, ∑ i : Fin 64, hot (idxi (ix2 b i)) p * ∑ o : Fin 64, w (ix3 b o i) * hot (idxo (ix2 b o)) q)
      + bias (ix1 q) := by
  unfold result outF mF tmpF
  simp only [Fin.sum_univ_tiles 256 64 (rfl : 256 * 64 = 16384)]
  pointwise []
  refine congrArg (· + bias (ix1 q)) (Finset.sum_congr rfl fun p _ => congrArg (x (ix2 t p) * ·) (Finset.sum_congr rfl fun b _ =>
    Finset.sum_congr rfl fun i _ => congrArg (hot (idxi (ix2 b i)) p * ·) (Finset.sum_congr rfl fun o _ => ?_)))
  have h1 : (⟨(b.val * 64 + i.val) / 64, by omega⟩ : Fin 256) = b := Fin.ext (by show (b.val * 64 + i.val) / 64 = b.val; omega)
  have h2 : (⟨(b.val * 64 + i.val) % 64, by omega⟩ : Fin 64) = i := Fin.ext (by show (b.val * 64 + i.val) % 64 = i.val; omega)
  rw [h1, h2]

/-- Where the precondition holds, the kernel's result is the reference's. -/
theorem result_eq (hx : ∀ j, ((x j).toReal : EReal) = x j) (hw : ∀ j, ((w j).toReal : EReal) = w j) (hi : ∀ j, (idxi j).toNat < 4096)
    (ho : ∀ j, (idxo j).toNat < 2 ^ 31) :
    result x w idxi idxo bias = ReferenceIdeal.Read.val_main_v15 (F := Ideal) x w idxi idxo bias := by
  funext j
  obtain ⟨t, q, rfl⟩ : ∃ (t : Fin 8192) (q : Fin 4096), j = ix2 t q := ⟨j 0, j 1, eq_ix2 j⟩
  have hk (b : Fin 256) (i : Fin 64) : idxi (ix2 b i) = BitVec.ofNat 32 (⟨(idxi (ix2 b i)).toNat, hi _⟩ : Fin 4096).val :=
    BitVec.eq_of_toNat_eq (by rw [BitVec.toNat_ofNat, Nat.mod_eq_of_lt (idxi (ix2 b i)).isLt])
  refine (result_at x w idxi idxo bias t q).trans (Eq.trans ?_
    (ReferenceIdeal.RefValue.ref_at x w idxi idxo bias (fun b i => ⟨(idxi (ix2 b i)).toNat, hi _⟩) hk (fun b o => ho _) t q).symm)
  refine congrArg (· + bias (ix1 q)) (Eq.trans ?_ (Equation.ereal_eq (fun p => x (ix2 t p)) (fun b o i => w (ix3 b o i))
    (fun b i => (⟨(idxi (ix2 b i)).toNat, hi _⟩ : Fin 4096)) (fun b o => idxo (ix2 b o) = BitVec.ofNat 32 q.val) (fun _ => hx _) (fun _ _ _ => hw _)))
  have hh (b : Fin 256) (i : Fin 64) (p : Fin 4096) : hot (idxi (ix2 b i)) p = if (⟨(idxi (ix2 b i)).toNat, hi _⟩ : Fin 4096) = p then 1 else 0 := by
    have := p.isLt
    have := hi (ix2 b i)
    unfold hot
    refine if_congr ?_ rfl rfl
    rw [Fin.ext_iff, BitVec.toNat_eq, BitVec.toNat_ofNat, Nat.mod_eq_of_lt (by omega)]
  simp only [hh]
  rfl

end Cert.KernelIdeal.KernelValue

end
-- ==== Proof.Precond.lean ====
/- What the precondition says of the arguments: `x` and the weights are real numbers, every input index names a column, no output index is negative. -/
module

public import proofs.«01_k».proof.Proof.Gen.Pre_indices_in_range_values_finite
public import Idealize.ShloMosaic.Lib.Pointwise
public import Idealize.ShloMosaic.Lib.StableHlo.Predicate

@[expose] public section

set_option maxRecDepth 16384

noncomputable section

namespace Cert.Pre_indices_in_range_values_finite.Read

open Idealize.ShloMosaic
open Cert.Pre_indices_in_range_values_finite Cert.Pre_indices_in_range_values_finite.Gen

/-- An extended real whose absolute value is below the pattern of infinity is a real number. -/
theorem real_of_lt (v : EReal) (h : FloatOps.absf (F := Ideal) (φ := .f32) v < Ideal.ofBits .f32 0x7F800000#32) : ((v.toReal : ℝ) : EReal) = v := by
  have ht : Ideal.ofBits .f32 0x7F800000#32 = ⊤ := by simp [Ideal.ofBits, Ideal.ieee]
  rw [ht] at h
  have h' : max v (-v) < ⊤ := h
  refine EReal.coe_toReal ?_ ?_
  · rintro rfl; simp at h'
  · rintro rfl; simp at h'

/-- A word that compares at least zero, signed, is below `2 ^ 31`. -/
theorem lt_of_sge (v : BitVec 32) (h : IntOp.cmpi .sge v 0#32 = 1#1) : v.toNat < 2 ^ 31 := by
  have h' : (0#32).sle v = true := (StableHlo.Predicate.ofBool_eq_one_iff _).1 h
  rw [BitVec.sle_iff_toInt_le, BitVec.toInt_zero, BitVec.toInt_eq_toNat_cond] at h'
  have := v.isLt
  split at h' <;> omega

variable (x : FVec Ideal S8192x4096 .f32) (w : FVec Ideal S256x64x64 .f32) (idxi idxo : IVec S256x64 32) (b : FVec Ideal S4096 .f32)

/-- Every entry of `x` is a real number. -/
theorem x_real (h : (fn (F := Ideal) x w idxi idxo b).1 = fun _ => 1#1) (i : S8192x4096.Idx) : ((x i).toReal : EReal) = x i := by
  have e := congrFun h i
  idx_vars i
  unfold fn at e
  pointwise [] at e
  exact real_of_lt _ (of_decide_eq_true ((StableHlo.Predicate.ofBool_eq_one_iff _).1 e))

/-- Every weight is a real number. -/
theorem w_real (h : (fn (F := Ideal) x w idxi idxo b).2.1 = fun _ => 1#1) (i : S256x64x64.Idx) : ((w i).toReal : EReal) = w i := by
  have e := congrFun h i
  idx_vars i
  unfold fn at e
  pointwise [] at e
  exact real_of_lt _ (of_decide_eq_true ((StableHlo.Predicate.ofBool_eq_one_iff _).1 e))

/-- Every input index is the word of a column. -/
theorem idxi_lt (h : (fn (F := Ideal) x w idxi idxo b).2.2.1 = fun _ => 1#1) (i : S256x64.Idx) : (idxi i).toNat < 4096 := by
  have e := congrFun h i
  idx_vars i
  unfold fn at e
  pointwise [] at e
  obtain ⟨e0, e1⟩ : IntOp.cmpi .sge (idxi (ix2 i0 i1)) 0#32 = 1#1 ∧ IntOp.cmpi .slt (idxi (ix2 i0 i1)) 4096#32 = 1#1 := by
    revert e
    generalize IntOp.cmpi .sge (idxi (ix2 i0 i1)) 0#32 = a
    generalize IntOp.cmpi .slt (idxi (ix2 i0 i1)) 4096#32 = b
    revert a b
    decide
  exact (StableHlo.Predicate.slt_iff_toNat (lt_of_sge _ e0) (by decide)).1 e1

/-- No output index is negative. -/
theorem idxo_lt (h : (fn (F := Ideal) x w idxi idxo b).2.2.2 = fun _ => 1#1) (i : S256x64.Idx) : (idxo i).toNat < 2 ^ 31 := by
  have e := congrFun h i
  idx_vars i
  unfold fn at e
  pointwise [] at e
  exact lt_of_sge _ e

end Cert.Pre_indices_in_range_values_finite.Read

end
-- ==== Proof.lean ====
/- The proof of the claim: both programs run, leave their arguments unchanged and end with every counter at zero,
   and the kernel's result equals the reference's result on inputs satisfying the stated precondition. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_indices_in_range_values_finite
public import proofs.«01_k».proof.Proof.KernelRun
public import proofs.«01_k».proof.Proof.KernelValue
public import proofs.«01_k».proof.Proof.Precond
public import Idealize.ShloMosaic.Adequacy
public import Idealize.ShloMosaic.Init
public import Idealize.ShloMosaic.Lib.Claim

@[expose] public section

noncomputable section

namespace Cert.Proof

open Idealize.ShloMosaic Idealize.SL.Sem

/-- The reference ends quiescent with its arguments unchanged, from any memory. -/
theorem quiescentReference : Cert.quiescent_ReferenceIdeal (hReferenceIdeal := Cert.ReferenceIdeal.Gen.facts) := by
  intro m g _
  exact (θ_run Cert.ReferenceIdeal.defs _ _).mono
    (fun r h => ⟨fun c => (h c).2, Idealize.ShloMosaic.sem_eq_zero_of_no_sems (by decide) r.2⟩) (Cert.ReferenceIdeal.Value.run (F := Ideal) m g)

/-- Where the precondition holds, the kernel and the reference, run on equal arguments, end with equal results. -/
theorem algebraic : Cert.algebraic_KernelIdeal_ReferenceIdeal_pre_indices_in_range_values_finite (hKernelIdeal := Cert.KernelIdeal.Gen.facts)
    (hReferenceIdeal := Cert.ReferenceIdeal.Gen.facts) (hPre_indices_in_range_values_finite := Cert.Pre_indices_in_range_values_finite.Gen.facts) := by
  intro m g m' g' hpre hargs
  refine ⟨_, Cert.KernelIdeal.Run.run m g, (θ_run Cert.ReferenceIdeal.defs _ _).mono (fun r h c => ⟨?_, (h c).2⟩)
    (Cert.ReferenceIdeal.Value.run (F := Ideal) m' g')⟩
  obtain ⟨p0, p1, p2, p3⟩ := hpre c
  obtain ⟨a0, a1, a2, a3, a4⟩ := hargs c
  refine ((h c).1.trans (Cert.ReferenceIdeal.Read.val_main_v15_eq _ _ _ _ _)).trans ?_
  rw [a0, a1, a2, a3, a4]
  exact (Cert.KernelIdeal.KernelValue.result_eq _ _ _ _ _
    (Cert.Pre_indices_in_range_values_finite.Read.x_real _ _ _ _ _ p0) (Cert.Pre_indices_in_range_values_finite.Read.w_real _ _ _ _ _ p1)
    (Cert.Pre_indices_in_range_values_finite.Read.idxi_lt _ _ _ _ _ p2) (Cert.Pre_indices_in_range_values_finite.Read.idxo_lt _ _ _ _ _ p3)).symm

/-- Every claim of the certificate. -/
theorem claim : Cert.Claim := ⟨Cert.Kernel.Gen.facts, Cert.KernelIdeal.Gen.facts, Cert.ReferenceIdeal.Gen.facts, Cert.Pre_indices_in_range_values_finite.Gen.facts,
  fun m g _ => Cert.Kernel.Gen.frame m g,
  fun m g _ => Cert.KernelIdeal.Gen.frame m g,
  fun m g _ => Cert.KernelIdeal.Gen.frame m g,
  quiescentReference,
  fun m g _ => quiescentReference m g (by trivial),
  trivial,
  algebraic⟩

end Cert.Proof

end
